-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x3072x14720 : Shape := ⟨3, ![2, 3072, 14720]⟩
abbrev S2x3072 : Shape := ⟨2, ![2, 3072]⟩
abbrev S7360x6272 : Shape := ⟨2, ![7360, 6272]⟩
abbrev S115x6272 : Shape := ⟨2, ![115, 6272]⟩
abbrev S6272 : Shape := ⟨1, ![6272]⟩
abbrev S6144x14720 : Shape := ⟨2, ![6144, 14720]⟩
abbrev S6144x1 : Shape := ⟨2, ![6144, 1]⟩
abbrev S1x6272 : Shape := ⟨2, ![1, 6272]⟩
abbrev S6144x6272 : Shape := ⟨2, ![6144, 6272]⟩
abbrev S256x14720 : Shape := ⟨2, ![256, 14720]⟩
abbrev S256x1 : Shape := ⟨2, ![256, 1]⟩
abbrev S7360x896 : Shape := ⟨2, ![7360, 896]⟩
abbrev S115x896 : Shape := ⟨2, ![115, 896]⟩
abbrev S1x896 : Shape := ⟨2, ![1, 896]⟩
abbrev S256x896 : Shape := ⟨2, ![256, 896]⟩
abbrev S14720x896 : Shape := ⟨2, ![14720, 896]⟩
abbrev S64x896 : Shape := ⟨2, ![64, 896]⟩
abbrev S128x896 : Shape := ⟨2, ![128, 896]⟩
abbrev S2x3072x6272 : Shape := ⟨3, ![2, 3072, 6272]⟩

abbrev nBuf : Space → Nat
  | .hbm => 15
  | .vmem => 15
  | .smem => 0
  | _ => 0

abbrev bufTy : (tb : Table) → Fin (tcTables nBuf tb) → BufTy
  | .hbm, ⟨0, _⟩ => ⟨S2x3072x14720, .i8⟩
  | .hbm, ⟨1, _⟩ => ⟨S2x3072, .f32⟩
  | .hbm, ⟨2, _⟩ => ⟨S7360x6272, .i8⟩
  | .hbm, ⟨3, _⟩ => ⟨S115x6272, .i8⟩
  | .hbm, ⟨4, _⟩ => ⟨S115x6272, .i8⟩
  | .hbm, ⟨5, _⟩ => ⟨S6272, .f32⟩
  | .hbm, ⟨6, _⟩ => ⟨S6144x14720, .i8⟩
  | .hbm, ⟨7, _⟩ => ⟨S6144x1, .f32⟩
  | .hbm, ⟨8, _⟩ => ⟨S115x6272, .i32⟩
  | .hbm, ⟨9, _⟩ => ⟨S115x6272, .f32⟩
  | .hbm, ⟨10, _⟩ => ⟨S115x6272, .i32⟩
  | .hbm, ⟨11, _⟩ => ⟨S115x6272, .f32⟩
  | .hbm, ⟨12, _⟩ => ⟨S1x6272, .f32⟩
  | .hbm, ⟨13, _⟩ => ⟨S6144x6272, .bf16⟩
  | .hbm, ⟨14, _⟩ => ⟨S2x3072x6272, .bf16⟩
  | .local _ .vmem, ⟨0, _⟩ => ⟨S256x14720, .i8⟩
  | .local _ .vmem, ⟨1, _⟩ => ⟨S256x14720, .i8⟩
  | .local _ .vmem, ⟨2, _⟩ => ⟨S256x1, .f32⟩
  | .local _ .vmem, ⟨3, _⟩ => ⟨S256x1, .f32⟩
  | .local _ .vmem, ⟨4, _⟩ => ⟨S7360x896, .i8⟩
  | .local _ .vmem, ⟨5, _⟩ => ⟨S7360x896, .i8⟩
  | .local _ .vmem, ⟨6, _⟩ => ⟨S115x896, .f32⟩
  | .local _ .vmem, ⟨7, _⟩ => ⟨S115x896, .f32⟩
  | .local _ .vmem, ⟨8, _⟩ => ⟨S115x896, .f32⟩
  | .local _ .vmem, ⟨9, _⟩ => ⟨S115x896, .f32⟩
  | .local _ .vmem, ⟨10, _⟩ => ⟨S1x896, .f32⟩
  | .local _ .vmem, ⟨11, _⟩ => ⟨S1x896, .f32⟩
  | .local _ .vmem, ⟨12, _⟩ => ⟨S256x896, .bf16⟩
  | .local _ .vmem, ⟨13, _⟩ => ⟨S256x896, .bf16⟩
  | .local _ .vmem, ⟨14, _⟩ => ⟨S14720x896, .bf16⟩
  | _, _ => ⟨S2x3072x14720, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![7, 24], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_10 : BitVec 32 := 0#32
  let c115_i32 : BitVec 32 := 115#32
  let v18 : BitVec 32 := Scalar.addi c0_i32_10 c115_i32
  let c1_i32 : BitVec 32 := 1#32
  ⟨c0_i32_10, v18, c1_i32⟩
def k0_off1 (k0_t1 : Fin k0_t1_loop.trips) : Fin 2 → Nat :=
  let c0_i32_10 : BitVec 32 := 0#32
  let c1_i32 : BitVec 32 := 1#32
  let arg10 : BitVec 32 := Scf.iv c0_i32_10 c1_i32 k0_t1
  let v19 : Index := Scalar.indexCast arg10
  let c0_12 : Index := 0#32
  ![v19.toNat, 0]
def k0_mult1 (k0_t1 : Fin k0_t1_loop.trips) : BitVec 32 :=
  let c0_i32_10 : BitVec 32 := 0#32
  let c1_i32 : BitVec 32 := 1#32
  let arg10 : BitVec 32 := Scf.iv c0_i32_10 c1_i32 k0_t1
  let c64_i32 : BitVec 32 := 64#32
  let v27 : BitVec 32 := Scalar.muli arg10 c64_i32
  v27
def k0_off2 (k0_t1 : Fin k0_t1_loop.trips) : Fin 2 → Nat :=
  let c0_i32_10 : BitVec 32 := 0#32
  let c1_i32 : BitVec 32 := 1#32
  let arg10 : BitVec 32 := Scf.iv c0_i32_10 c1_i32 k0_t1
  let c64_i32 : BitVec 32 := 64#32
  let v27 : BitVec 32 := Scalar.muli arg10 c64_i32
  let v28 : BitVec 32 := v27
  let v29 : Index := Scalar.indexCast v28
  let c0_14 : Index := 0#32
  ![v29.toNat, 0]
def k0_mult2 (k0_t1 : Fin k0_t1_loop.trips) : BitVec 32 :=
  let c0_i32_10 : BitVec 32 := 0#32
  let c1_i32 : BitVec 32 := 1#32
  let arg10 : BitVec 32 := Scf.iv c0_i32_10 c1_i32 k0_t1
  let c128_i32 : BitVec 32 := 128#32
  let v46 : BitVec 32 := Scalar.muli arg10 c128_i32
  v46
def k0_off3 (k0_t1 : Fin k0_t1_loop.trips) : Fin 2 → Nat :=
  let c0_i32_10 : BitVec 32 := 0#32
  let c1_i32 : BitVec 32 := 1#32
  let arg10 : BitVec 32 := Scf.iv c0_i32_10 c1_i32 k0_t1
  let c128_i32 : BitVec 32 := 128#32
  let v46 : BitVec 32 := Scalar.muli arg10 c128_i32
  let v47 : BitVec 32 := v46
  let v48 : Index := Scalar.indexCast v47
  let c0_16 : Index := 0#32
  ![v48.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x14720 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S7360x896 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S115x896 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S115x896 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x896 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x896 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S2x3072x14720 : Shape := ⟨3, ![2, 3072, 14720]⟩
abbrev S2x3072 : Shape := ⟨2, ![2, 3072]⟩
abbrev S7360x6272 : Shape := ⟨2, ![7360, 6272]⟩
abbrev S115x6272 : Shape := ⟨2, ![115, 6272]⟩
abbrev S6272 : Shape := ⟨1, ![6272]⟩
abbrev S7360x1x6272 : Shape := ⟨3, ![7360, 1, 6272]⟩
abbrev S7360x2x6272 : Shape := ⟨3, ![7360, 2, 6272]⟩
abbrev S14720x6272 : Shape := ⟨2, ![14720, 6272]⟩
abbrev S14720 : Shape := ⟨1, ![14720]⟩
abbrev S_ : Shape := ⟨0, ![]⟩
abbrev S14720x1 : Shape := ⟨2, ![14720, 1]⟩
abbrev S115x128x6272 : Shape := ⟨3, ![115, 128, 6272]⟩
abbrev S115x1x6272 : Shape := ⟨3, ![115, 1, 6272]⟩
abbrev S2x3072x6272 : Shape := ⟨3, ![2, 3072, 6272]⟩
abbrev S2x3072x1 : Shape := ⟨3, ![2, 3072, 1]⟩
abbrev S1x1x6272 : Shape := ⟨3, ![1, 1, 6272]⟩

abbrev nBuf : Space → Nat
  | .hbm => 46
  | .vmem => 0
  | .smem => 0
  | _ => 0

abbrev bufTy : (tb : Table) → Fin (tcTables nBuf tb) → BufTy
  | .hbm, ⟨0, _⟩ => ⟨S2x3072x14720, .i8⟩
  | .hbm, ⟨1, _⟩ => ⟨S2x3072, .f32⟩
  | .hbm, ⟨2, _⟩ => ⟨S7360x6272, .i8⟩
  | .hbm, ⟨3, _⟩ => ⟨S115x6272, .i8⟩
  | .hbm, ⟨4, _⟩ => ⟨S115x6272, .i8⟩
  | .hbm, ⟨5, _⟩ => ⟨S6272, .f32⟩
  | .hbm, ⟨6, _⟩ => ⟨S2x3072x14720, .i32⟩
  | .hbm, ⟨7, _⟩ => ⟨S2x3072x14720, .bf16⟩
  | .hbm, ⟨8, _⟩ => ⟨S7360x1x6272, .i8⟩
  | .hbm, ⟨9, _⟩ => ⟨S7360x2x6272, .i8⟩
  | .hbm, ⟨10, _⟩ => ⟨S14720x6272, .i8⟩
  | .hbm, ⟨11, _⟩ => ⟨S14720x6272, .i32⟩
  | .hbm, ⟨12, _⟩ => ⟨S14720, .i32⟩
  | .hbm, ⟨13, _⟩ => ⟨S_, .i32⟩
  | .hbm, ⟨14, _⟩ => ⟨S14720, .i32⟩
  | .hbm, ⟨15, _⟩ => ⟨S14720, .i32⟩
  | .hbm, ⟨16, _⟩ => ⟨S_, .i32⟩
  | .hbm, ⟨17, _⟩ => ⟨S14720, .i32⟩
  | .hbm, ⟨18, _⟩ => ⟨S14720, .i32⟩
  | .hbm, ⟨19, _⟩ => ⟨S14720x1, .i32⟩
  | .hbm, ⟨20, _⟩ => ⟨S14720x6272, .i32⟩
  | .hbm, ⟨21, _⟩ => ⟨S14720x6272, .i32⟩
  | .hbm, ⟨22, _⟩ => ⟨S_, .i32⟩
  | .hbm, ⟨23, _⟩ => ⟨S14720x6272, .i32⟩
  | .hbm, ⟨24, _⟩ => ⟨S14720x6272, .i32⟩
  | .hbm, ⟨25, _⟩ => ⟨S14720x6272, .bf16⟩
  | .hbm, ⟨26, _⟩ => ⟨S115x128x6272, .bf16⟩
  | .hbm, ⟨27, _⟩ => ⟨S115x6272, .i32⟩
  | .hbm, ⟨28, _⟩ => ⟨S115x6272, .bf16⟩
  | .hbm, ⟨29, _⟩ => ⟨S115x1x6272, .bf16⟩
  | .hbm, ⟨30, _⟩ => ⟨S115x128x6272, .bf16⟩
  | .hbm, ⟨31, _⟩ => ⟨S115x128x6272, .bf16⟩
  | .hbm, ⟨32, _⟩ => ⟨S115x6272, .i32⟩
  | .hbm, ⟨33, _⟩ => ⟨S115x6272, .bf16⟩
  | .hbm, ⟨34, _⟩ => ⟨S115x1x6272, .bf16⟩
  | .hbm, ⟨35, _⟩ => ⟨S115x128x6272, .bf16⟩
  | .hbm, ⟨36, _⟩ => ⟨S115x128x6272, .bf16⟩
  | .hbm, ⟨37, _⟩ => ⟨S14720x6272, .bf16⟩
  | .hbm, ⟨38, _⟩ => ⟨S2x3072x6272, .f32⟩
  | .hbm, ⟨39, _⟩ => ⟨S2x3072x1, .f32⟩
  | .hbm, ⟨40, _⟩ => ⟨S2x3072x6272, .f32⟩
  | .hbm, ⟨41, _⟩ => ⟨S2x3072x6272, .f32⟩
  | .hbm, ⟨42, _⟩ => ⟨S1x1x6272, .f32⟩
  | .hbm, ⟨43, _⟩ => ⟨S2x3072x6272, .f32⟩
  | .hbm, ⟨44, _⟩ => ⟨S2x3072x6272, .f32⟩
  | .hbm, ⟨45, _⟩ => ⟨S2x3072x6272, .bf16⟩
  | _, _ => ⟨S2x3072x14720, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩

abbrev nD : Nat := 1
abbrev τ : Topo := Topo.v7x

variable {F : FTy → Type} [FloatOps F]
-- ==== Proof.Nibble.lean ====
module

public import Idealize.ShloMosaic.Lib.Pointwise
public import Idealize.ShloMosaic.Lib.BitcastPair

@[expose] public section

noncomputable section

/-!
A packed byte holds two four-bit codes. The kernel spreads a byte over a 32-bit word whose two halves are the bf16 words
`0x4300 | code`, and subtracts 128; the reference shifts the byte and masks it. Both give the code.
-/

namespace Cert.Nibble

open Idealize.ShloMosaic

/-- Code number `p` (0 is the low half, 1 the high half) of a packed byte, as a number. -/
def code (b : BitVec 8) (p : ℕ) : ℕ := b.toNat / 16 ^ p % 16

/-- The 32-bit word the kernel makes of a byte. -/
def word (b : BitVec 8) : BitVec 32 :=
  ((b.zeroExtend 32 ||| (b.zeroExtend 32) <<< (12 : ℕ)) &&& 983055#32) ||| 1124090624#32

/-- Its half `p` is `0x4300` with the code in the low four bits. -/
theorem half_word : ∀ (b : BitVec 8) (p : Fin 2),
    (word b).extractLsb' (16 * p.val) 16 = BitVec.ofNat 16 (0x4300 + code b p.val) := by
  decide +kernel

/-- The bf16 word `0x4300 + c` is the number `128 + c`, for a four-bit `c`. -/
theorem ofBits_code (c : ℕ) (h : c < 16) :
    Ideal.ofBits .bf16 (BitVec.ofNat 16 (0x4300 + c)) = (((128 + c : ℕ) : ℝ) : EReal) := by
  have hs : ∀ c : Fin 16, ((BitVec.ofNat 16 (0x4300 + c.val)).extractLsb' 15 1 == 1#1) = false
      ∧ ((BitVec.ofNat 16 (0x4300 + c.val)).extractLsb' 7 8).toNat = 134
      ∧ ((BitVec.ofNat 16 (0x4300 + c.val)).extractLsb' 0 7).toNat = c.val := by decide +kernel
  obtain ⟨h1, h2, h3⟩ := hs ⟨c, h⟩
  dsimp only at h1 h2 h3
  show Ideal.ieee 8 7 _ = _
  unfold Ideal.ieee
  simp only [show 8 + 7 = 15 from rfl, h1, h2, h3]
  norm_num

/-- Half `p` of a byte's word, read as a bf16 and less 128, is code `p`. -/
theorem half_sub (b : BitVec 8) (p : ℕ) (hp : p < 2) :
    Ideal.ofBits .bf16 ((word b).extractLsb' (16 * p) 16) - Ideal.ofBits .bf16 17152#16 = (((code b p : ℕ) : ℝ) : EReal) := by
  have hc : code b p < 16 := Nat.mod_lt _ (by decide)
  have h128 : Ideal.ofBits .bf16 17152#16 = (((128 + 0 : ℕ) : ℝ) : EReal) := ofBits_code 0 (by decide)
  rw [show (word b).extractLsb' (16 * p) 16 = BitVec.ofNat 16 (0x4300 + code b p) from half_word b ⟨p, hp⟩, ofBits_code _ hc, h128,
    ← EReal.coe_sub]
  congr 1
  push_cast
  ring

/-- The reference's spelling: the byte, widened to a word, is shifted down by four times the half and masked. -/
theorem shift_mask : ∀ (b : BitVec 8) (p : Fin 2),
    (IntOp.andi (IntOp.shrsi .host (b.setWidth 32) (IntOp.muli (BitVec.ofNat 32 p.val) 4#32)) 15#32).toInt = (code b p.val : ℤ) := by
  decide +kernel

/-- The last bit of a row number. -/
theorem and_one (k : ℕ) : IntOp.andi (BitVec.ofNat 32 k) 1#32 = BitVec.ofNat 32 (k % 2) := by
  apply BitVec.eq_of_toNat_eq
  simp only [IntOp.andi, BitVec.toNat_and, BitVec.toNat_ofNat]
  rw [show 1 % 2 ^ 32 = 1 from rfl, Nat.and_one_is_mod]
  omega

/-- A byte widened to a word without its sign is its value. -/
theorem zext_toInt (b : BitVec 8) : (b.setWidth 32).toInt = (b.toNat : ℤ) := by
  revert b; decide +kernel

/-- A byte widened to a word with its sign is its signed value. -/
theorem sext_toInt (b : BitVec 8) : (b.signExtend 32).toInt = b.toInt := by
  revert b; decide +kernel

end Cert.Nibble

end
-- ==== Proof.Entry.lean ====
module

public import proofs.«01_k».proof.Proof.Gen.KernelIdeal.Frame
public import Idealize.ShloMosaic.Lib.Pipeline.Value
public import Idealize.ShloMosaic.Lib.StableHlo.Run
public import Idealize.ShloMosaic.Lib.Tactic
public import Idealize.ShloMosaic.Lib.Claim
public import Idealize.ShloMosaic.Lib.Pointwise
public import Idealize.ShloMosaic.Lib.Pipeline.ValueKit.Point
public import proofs.«01_k».proof.Proof.Nibble

@[expose] public section

set_option maxRecDepth 16384

noncomputable section

/-!
The blocks the pipeline hands the body, read at one element as the arguments: which rows and columns a point's block
covers, through the reshapes and conversions that come before the kernel.
-/

namespace Cert.KernelIdeal.Value

open Idealize.ShloMosaic Idealize.ShloMosaic.TcCoe Idealize.ShloMosaic.Tactic Idealize.SL.Sem
open Cert.KernelIdeal Cert.KernelIdeal.Gen

variable (m : (ℓ : Loc nD τ sig) → Buf (Elt Ideal) ℓ)

/-- The block each window takes at point `t`: the row block is `t % 24`, the column block `t / 24`. -/
theorem idx : ∀ t : Fin cfg0.N, win0_0.index t = ![t.val % 24, 0] ∧ win0_1.index t = ![t.val % 24, 0] ∧ win0_2.index t = ![0, t.val / 24]
    ∧ win0_3.index t = ![0, t.val / 24] ∧ win0_4.index t = ![0, t.val / 24] ∧ win0_5.index t = ![0, t.val / 24]
    ∧ win0_6.index t = ![t.val % 24, t.val / 24] ∧ t.val < 168 :=
  (by decide +kernel : ∀ t : Fin grid0.N, _)

/-- The kernel's first array is the activation codes with batch and position as one row axis. -/
theorem V_main_v0 (c : Dev nD) : V m c main_v0 = shapeCast S6144x14720 (m ((c : Thread nD τ).loc main_arg0)) shapeCasts_S2x3072x14720_S6144x14720 := by
  show StableHlo.after hostOps0 _ (Proc.devRef .tc main_v0) = _
  after_results
  rfl

/-- Its second array is the token scales as one column. -/
theorem V_main_v1 (c : Dev nD) : V m c main_v1 = shapeCast S6144x1 (m ((c : Thread nD τ).loc main_arg1)) shapeCasts_S2x3072_S6144x1 := by
  show StableHlo.after hostOps0 _ (Proc.devRef .tc main_v1) = _
  after_results
  rfl

/-- Its fourth array is the group scales, widened to words and converted to floats. -/
theorem V_main_v3 (c : Dev nD) : V m c main_v3
    = sitofp (F := Ideal) .f32 (extui 32 (m ((c : Thread nD τ).loc main_arg3) : IVec S115x6272 8) natLt_8_32) := by
  show StableHlo.after hostOps0 _ (Proc.devRef .tc main_v3) = _
  after_results

/-- Its fifth array is the group zeros, widened and converted likewise. -/
theorem V_main_v5 (c : Dev nD) : V m c main_v5
    = sitofp (F := Ideal) .f32 (extui 32 (m ((c : Thread nD τ).loc main_arg4) : IVec S115x6272 8) natLt_8_32) := by
  show StableHlo.after hostOps0 _ (Proc.devRef .tc main_v5) = _
  after_results

/-- Its sixth array is the channel scales as one row. -/
theorem V_main_v6 (c : Dev nD) : V m c main_v6 = shapeCast S1x6272 (m ((c : Thread nD τ).loc main_arg5)) shapeCasts_S6272_S1x6272 := by
  show StableHlo.after hostOps0 _ (Proc.devRef .tc main_v6) = _
  after_results
  rfl

/-- The activation codes with batch and position as one row axis. -/
theorem rows_at (x : IVec S2x3072x14720 8) (r : Fin 6144) (k : Fin 14720) :
    shapeCast S6144x14720 x shapeCasts_S2x3072x14720_S6144x14720 (ix2 r k)
      = x (ix3 ⟨r.val / 3072, by omega⟩ ⟨r.val % 3072, Nat.mod_lt _ (by decide)⟩ k) := by
  pointwise

/-- The token scales with batch and position as one row axis. -/
theorem rowScale_at (x : FVec Ideal S2x3072 .f32) (r : Fin 6144) :
    shapeCast S6144x1 x shapeCasts_S2x3072_S6144x1 (ix2 r 0)
      = x (ix2 ⟨r.val / 3072, by omega⟩ ⟨r.val % 3072, Nat.mod_lt _ (by decide)⟩) := by
  pointwise

/-- The channel scales as a row. -/
theorem colScale_at (x : FVec Ideal S6272 .f32) (n : Fin 6272) :
    shapeCast S1x6272 x shapeCasts_S6272_S1x6272 (ix2 0 n) = x (ix1 n) := by
  pointwise

/-- A group's scale or zero: the byte's value. -/
theorem byteValue_at (x : IVec S115x6272 8) (g : Fin 115) (n : Fin 6272) :
    sitofp (F := Ideal) .f32 (extui 32 x natLt_8_32) (ix2 g n) = (((x (ix2 g n)).toNat : ℝ) : EReal) := by
  show (((BitVec.toInt ((x (ix2 g n)).setWidth 32) : ℤ) : ℝ) : EReal) = _
  rw [Nibble.zext_toInt, Int.cast_natCast]

/-- Row `r` of point `t`'s row block, as a row of the whole array. -/
def rowOf (t : Fin cfg0.N) (r : Fin 256) : Fin 6144 := ⟨t.val % 24 * 256 + r.val, by omega⟩

/-- Column `q` of point `t`'s column block, as a column of the whole array. -/
def colOf (t : Fin cfg0.N) (q : Fin 896) : Fin 6272 := ⟨t.val / 24 * 896 + q.val, by have := (idx t).2.2.2.2.2.2.2; omega⟩

/-- The block of activation codes at a point: the rows of its row block, over all of the contracted axis. -/
theorem iblk_x (c : Dev nD) (t : Fin cfg0.N) (r : Fin 256) (k : Fin 14720) :
    (iblk m c 0 t : Vec Ideal S256x14720 .i8) (ix2 r k)
      = (m ((c : Thread nD τ).loc main_arg0) : IVec S2x3072x14720 8)
        (ix3 ⟨(rowOf t r).val / 3072, by omega⟩ ⟨(rowOf t r).val % 3072, Nat.mod_lt _ (by decide)⟩ k) := by
  have e : (iblk m c 0 t : Vec Ideal S256x14720 .i8) (ix2 r k) = (V m c main_v0 : IVec S6144x14720 8) (ix2 (rowOf t r) k) := by
    blk_ext [iblk, rowOf, idx t]
  rw [e, V_main_v0]
  exact rows_at _ (rowOf t r) k

/-- The block of token scales at a point: those of the rows of its row block. -/
theorem iblk_xs (c : Dev nD) (t : Fin cfg0.N) (r : Fin 256) :
    (iblk m c 1 t : Vec Ideal S256x1 .f32) (ix2 r 0)
      = (m ((c : Thread nD τ).loc main_arg1) : FVec Ideal S2x3072 .f32)
        (ix2 ⟨(rowOf t r).val / 3072, by omega⟩ ⟨(rowOf t r).val % 3072, Nat.mod_lt _ (by decide)⟩) := by
  have e : (iblk m c 1 t : Vec Ideal S256x1 .f32) (ix2 r 0) = (V m c main_v1 : FVec Ideal S6144x1 .f32) (ix2 (rowOf t r) 0) := by
    blk_ext [iblk, rowOf, idx t]
  rw [e, V_main_v1]
  exact rowScale_at _ (rowOf t r)

/-- The block of packed codes at a point: the columns of its column block. -/
theorem iblk_packed (c : Dev nD) (t : Fin cfg0.N) (k : Fin 7360) (q : Fin 896) :
    (iblk m c 2 t : Vec Ideal S7360x896 .i8) (ix2 k q) = (m ((c : Thread nD τ).loc main_arg2) : IVec S7360x6272 8) (ix2 k (colOf t q)) := by
  have e : (iblk m c 2 t : Vec Ideal S7360x896 .i8) (ix2 k q) = (V m c main_arg2 : IVec S7360x6272 8) (ix2 k (colOf t q)) := by
    blk_ext [iblk, colOf, idx t]
  rw [e, V_main_arg2]

/-- The block of group scales at a point: the values of the bytes in the columns of its column block. -/
theorem iblk_gs (c : Dev nD) (t : Fin cfg0.N) (g : Fin 115) (q : Fin 896) :
    (iblk m c 3 t : Vec Ideal S115x896 .f32) (ix2 g q)
      = ((((m ((c : Thread nD τ).loc main_arg3) : IVec S115x6272 8) (ix2 g (colOf t q))).toNat : ℝ) : EReal) := by
  have e : (iblk m c 3 t : Vec Ideal S115x896 .f32) (ix2 g q) = (V m c main_v3 : FVec Ideal S115x6272 .f32) (ix2 g (colOf t q)) := by
    blk_ext [iblk, colOf, idx t]
  rw [e, V_main_v3]
  exact byteValue_at _ g (colOf t q)

/-- The block of group zeros at a point, likewise. -/
theorem iblk_gz (c : Dev nD) (t : Fin cfg0.N) (g : Fin 115) (q : Fin 896) :
    (iblk m c 4 t : Vec Ideal S115x896 .f32) (ix2 g q)
      = ((((m ((c : Thread nD τ).loc main_arg4) : IVec S115x6272 8) (ix2 g (colOf t q))).toNat : ℝ) : EReal) := by
  have e : (iblk m c 4 t : Vec Ideal S115x896 .f32) (ix2 g q) = (V m c main_v5 : FVec Ideal S115x6272 .f32) (ix2 g (colOf t q)) := by
    blk_ext [iblk, colOf, idx t]
  rw [e, V_main_v5]
  exact byteValue_at _ g (colOf t q)

/-- The block of channel scales at a point: those of the columns of its column block. -/
theorem iblk_cs (c : Dev nD) (t : Fin cfg0.N) (q : Fin 896) :
    (iblk m c 5 t : Vec Ideal S1x896 .f32) (ix2 0 q) = (m ((c : Thread nD τ).loc main_arg5) : FVec Ideal S6272 .f32) (ix1 (colOf t q)) := by
  have e : (iblk m c 5 t : Vec Ideal S1x896 .f32) (ix2 0 q) = (V m c main_v6 : FVec Ideal S1x6272 .f32) (ix2 0 (colOf t q)) := by
    blk_ext [iblk, colOf, idx t]
  rw [e, V_main_v6]
  exact colScale_at _ (colOf t q)

end Cert.KernelIdeal.Value

end
-- ==== Proof.Block.lean ====
module

public import proofs.«01_k».proof.Proof.Gen.KernelIdeal.Skeleton
public import proofs.«01_k».proof.Proof.Nibble

@[expose] public section

set_option maxRecDepth 16384

noncomputable section

/-!
The two things the kernel body stores, read at one element over the extended reals: the dequantised block of one
group, and one output block.
-/

namespace Cert.KernelIdeal.Value

open Idealize.ShloMosaic Idealize.ShloMosaic.TcCoe Idealize.SL.Sem
open Cert.KernelIdeal Cert.KernelIdeal.Gen

/-- 64 rows of 32-bit words read as 128 rows of 16-bit ones: row `r` is half `r % 2` of row `r / 2`. -/
theorem bitcast_at (x : IVec S64x896 32) (r : Fin 128) (q : Fin 896) :
    bitcast S128x896 16 x bitcasts_S64x896_w32_S128x896_w16 (ix2 r q)
      = (x (ix2 ⟨r.val / 2, by omega⟩ q)).extractLsb' (16 * (r.val % 2)) 16 := by
  rw [bitcast_32_16]
  congr 1
  refine congrArg x (funext fun a => Fin.ext ?_)
  match a with
  | ⟨0, _⟩ => exact Shape.Bitcasts.srcIdx_row _ _ _ _ _ rfl
  | ⟨1, _⟩ => exact Shape.Bitcasts.srcIdx_other _ _ _ _ _ (show ¬ (1 + 2 = 2) by decide)

/-- The dequantised block of one group: row `r` is half `r % 2` of packed row `r / 2`, scaled and shifted by the group's
    scale and zero of that column. -/
theorem dequant_at (s z : Vec Ideal S1x896 .f32) (p : Vec Ideal S64x896 .i8) (r : Fin 128) (q : Fin 896) :
    k0_pay1 (F := Ideal) s z p (ix2 r q)
      = (((Nibble.code (p (ix2 ⟨r.val / 2, by omega⟩ q)) (r.val % 2) : ℕ) : ℝ) : EReal) * s (ix2 0 q) - z (ix2 0 q) := by
  pointwise [k0_pay1]
  rw [bitcast_at]
  congr 2
  exact Nibble.half_sub (p (ix2 ⟨r.val / 2, by omega⟩ q)) (r.val % 2) (Nat.mod_lt _ (by decide))

/-- One output block: the row of codes against the column of weights, times the two scales. -/
theorem out_at (x : Vec Ideal S256x14720 .i8) (w : Vec Ideal S14720x896 .bf16) (xs : Vec Ideal S256x1 .f32) (cs : Vec Ideal S1x896 .f32)
    (r : Fin 256) (q : Fin 896) :
    k0_pay2 (F := Ideal) x w xs cs (ix2 r q)
      = (∑ k : Fin 14720, (((x (ix2 r k) : BitVec 8).toInt : ℝ) : EReal) * w (ix2 k q)) * xs (ix2 r 0) * cs (ix2 0 q) := by
  pointwise [k0_pay2]
  rfl

end Cert.KernelIdeal.Value

end
-- ==== Proof.Scratch.lean ====
module

public import proofs.«01_k».proof.Proof.Gen.KernelIdeal.Frame
public import Idealize.ShloMosaic.Lib.Pipeline.Value
public import Idealize.ShloMosaic.Lib.Pipeline.ValueKit.Tiles
public import proofs.«01_k».proof.Proof.Block

@[expose] public section

set_option maxRecDepth 16384

noncomputable section

/-!
What one grid point leaves: the scratch holds the dequantised column block, and the output block is the product with it.
-/

namespace Cert.KernelIdeal.Value

open Idealize.ShloMosaic Idealize.ShloMosaic.TcCoe Idealize.ShloMosaic.Tactic Idealize.SL.Sem
open Cert.KernelIdeal Cert.KernelIdeal.Gen

/-- The dequantised column block: row `k` is code `k % 2` of packed row `k / 2`, times its group's scale, less its
    group's zero. -/
def colWeights (x2 : Vec Ideal S7360x896 .i8) (x3 x4 : Vec Ideal S115x896 .f32) : Vec Ideal S14720x896 .bf16 := fun i =>
  (((Nibble.code (x2 (ix2 ⟨(i 0).val / 2, by have := (i 0).isLt; change _ < 14720 at this; omega⟩ (i 1))) ((i 0).val % 2) : ℕ) : ℝ) : EReal)
      * x3 (ix2 ⟨(i 0).val / 128, by have := (i 0).isLt; change _ < 14720 at this; omega⟩ (i 1))
    - x4 (ix2 ⟨(i 0).val / 128, by have := (i 0).isLt; change _ < 14720 at this; omega⟩ (i 1))

/-- Trip `k`'s payload, element by element: group `k`'s scale and zero, the packed rows from `64 k`, stored at the rows
    from `128 k`. -/
theorem trip_at (x2 : Vec Ideal S7360x896 .i8) (x3 x4 : Vec Ideal S115x896 .f32) (k : ℕ) (hk : k < 115) (o1 o2 o3 : Fin 2 → ℕ)
    (e1 : o1 = ![k, 0]) (e2 : o2 = ![64 * k, 0]) (e3 : o3 = ![128 * k, 0])
    (h1 : ∀ a, o1 a + S1x896.size a ≤ S115x896.size a) (h2 : ∀ a, o2 a + S64x896.size a ≤ S7360x896.size a)
    (h3 : ∀ a, o3 a + S128x896.size a ≤ S14720x896.size a) (x : S128x896.Idx) :
    k0_pay1 (F := Ideal) (View.ld (S := S115x896) x3 (Rect.unit o1 S1x896.size h1)) (View.ld (S := S115x896) x4 (Rect.unit o1 S1x896.size h1))
        (View.ld (S := S7360x896) x2 (Rect.unit o2 S64x896.size h2)) x
      = colWeights x2 x3 x4 ((Rect.unit (s := S14720x896) o3 S128x896.size h3).emb x) := by
  subst e1 e2 e3
  have hr : (x 0).val < 128 := (x 0).isLt
  have hq : (x 1).val < 896 := (x 1).isLt
  obtain ⟨r, q, rfl⟩ : ∃ (r : Fin 128) (q : Fin 896), x = ix2 r q :=
    ⟨⟨(x 0).val, hr⟩, ⟨(x 1).val, hq⟩, funext fun a => match a with | ⟨0, _⟩ => rfl | ⟨1, _⟩ => rfl⟩
  change r.val < 128 at hr
  have hrow : ((Rect.unit (s := S14720x896) ![128 * k, 0] S128x896.size h3).emb (ix2 r q) 0).val = 128 * k + r.val := by
    show 128 * k + 1 * r.val = _; omega
  have hcol : (Rect.unit (s := S14720x896) ![128 * k, 0] S128x896.size h3).emb (ix2 r q) 1 = q := Fin.ext (by
    show 0 + 1 * q.val = _; omega)
  have key : ∀ y : S14720x896.Idx, (y 0).val = 128 * k + r.val → y 1 = q →
      colWeights x2 x3 x4 y = (((Nibble.code (x2 (ix2 ⟨64 * k + r.val / 2, by omega⟩ q)) (r.val % 2) : ℕ) : ℝ) : EReal)
        * x3 (ix2 ⟨k, hk⟩ q) - x4 (ix2 ⟨k, hk⟩ q) := by
    intro y h0 h1
    have a1 : ∀ h, (⟨(y 0).val / 2, h⟩ : Fin 7360) = ⟨64 * k + r.val / 2, by omega⟩ := fun _ => Fin.ext (by show (y 0).val / 2 = 64 * k + r.val / 2; omega)
    have a2 : ∀ h, (⟨(y 0).val / 128, h⟩ : Fin 115) = ⟨k, hk⟩ := fun _ => Fin.ext (by show (y 0).val / 128 = k; omega)
    have a3 : (y 0).val % 2 = r.val % 2 := by omega
    unfold colWeights
    rw [a1, a2, a3, h1]
  rw [key _ hrow hcol, dequant_at,
    View.ld_unit_apply_of (S := S115x896) x3 _ _ h1 (ix2 0 q) (ix2 ⟨k, hk⟩ q) (fun a => match a with | ⟨0, _⟩ => rfl | ⟨1, _⟩ => (Nat.zero_add _).symm),
    View.ld_unit_apply_of (S := S115x896) x4 _ _ h1 (ix2 0 q) (ix2 ⟨k, hk⟩ q) (fun a => match a with | ⟨0, _⟩ => rfl | ⟨1, _⟩ => (Nat.zero_add _).symm),
    View.ld_unit_apply_of (S := S7360x896) x2 _ _ h2 (ix2 ⟨r.val / 2, by omega⟩ q) (ix2 ⟨64 * k + r.val / 2, by omega⟩ q)
      (fun a => match a with | ⟨0, _⟩ => rfl | ⟨1, _⟩ => (Nat.zero_add _).symm)]

/-- What trip `k` stores agrees with the dequantised block. -/
theorem trip_piece (𝒱 : Variants) (bd : Option 𝒱.V) (c : Dev nD) (i : grid0.Coords) (arg2 : Memref sig .tc .vmem S256x14720 .i8) (harg2 : arg2.IsWhole)
    (arg3 : Memref sig .tc .vmem S256x1 .f32) (harg3 : arg3.IsWhole) (arg4 : Memref sig .tc .vmem S7360x896 .i8) (harg4 : arg4.IsWhole)
    (arg5 : Memref sig .tc .vmem S115x896 .f32) (harg5 : arg5.IsWhole) (arg6 : Memref sig .tc .vmem S115x896 .f32) (harg6 : arg6.IsWhole)
    (arg7 : Memref sig .tc .vmem S1x896 .f32) (harg7 : arg7.IsWhole) (arg8 : Memref sig .tc .vmem S256x896 .bf16) (harg8 : arg8.IsWhole)
    (arg9 : Memref sig .tc .vmem S14720x896 .bf16) (harg9 : arg9.IsWhole)
    (h1 : k0_cond1 i = 1#1)
    (x2 : Vec Ideal S7360x896 .i8) (x3 x4 : Vec Ideal S115x896 .f32) (k : Fin k0_t1_loop.trips) :
    ∀ pc ∈ tripL_k0_t1 (F := Ideal) 𝒱 c bd i arg2 harg2 arg3 harg3 arg4 harg4 arg5 harg5 arg6 harg6 arg7 harg7 arg8 harg8 arg9 harg9 h1
      (harg4.unread x2) (harg5.unread x3) (harg6.unread x4) k, ∀ x, pc.2 x = colWeights x2 x3 x4 (pc.1.emb x) := by
  have hk : k.val < 115 := Nat.lt_of_lt_of_le k.isLt k0_t1_abs.2.1
  unfold tripL_k0_t1 trip_k0_t1
  dsimp only
  sl_unfold_words
  simp only [View.readAt_eq_ld, harg4.read_unread, harg5.read_unread, harg6.read_unread]
  intro pc hpc
  obtain rfl := List.mem_singleton.mp hpc
  exact fun x => trip_at x2 x3 x4 k.val hk _ _ _ (k0_off1_eq k) (k0_off2_eq k) (k0_off3_eq k) (k0_off1_inb i k h1) (k0_off2_inb i k h1) (k0_off3_inb i k h1) x

/-- So does every piece of the trips before `n`. -/
theorem trips_pieces (𝒱 : Variants) (bd : Option 𝒱.V) (c : Dev nD) (i : grid0.Coords) (arg2 : Memref sig .tc .vmem S256x14720 .i8) (harg2 : arg2.IsWhole)
    (arg3 : Memref sig .tc .vmem S256x1 .f32) (harg3 : arg3.IsWhole) (arg4 : Memref sig .tc .vmem S7360x896 .i8) (harg4 : arg4.IsWhole)
    (arg5 : Memref sig .tc .vmem S115x896 .f32) (harg5 : arg5.IsWhole) (arg6 : Memref sig .tc .vmem S115x896 .f32) (harg6 : arg6.IsWhole)
    (arg7 : Memref sig .tc .vmem S1x896 .f32) (harg7 : arg7.IsWhole) (arg8 : Memref sig .tc .vmem S256x896 .bf16) (harg8 : arg8.IsWhole)
    (arg9 : Memref sig .tc .vmem S14720x896 .bf16) (harg9 : arg9.IsWhole)
    (h1 : k0_cond1 i = 1#1)
    (x2 : Vec Ideal S7360x896 .i8) (x3 x4 : Vec Ideal S115x896 .f32) (n : ℕ) (hn : n ≤ k0_t1_loop.trips) :
    ∀ pc ∈ pb_k0_t1 (F := Ideal) 𝒱 c bd i arg2 harg2 arg3 harg3 arg4 harg4 arg5 harg5 arg6 harg6 arg7 harg7 arg8 harg8 arg9 harg9 h1
      (harg4.unread x2) (harg5.unread x3) (harg6.unread x4) n, ∀ x, pc.2 x = colWeights x2 x3 x4 (pc.1.emb x) := by
  induction n with
  | zero => intro pc hpc; exact absurd hpc List.not_mem_nil
  | succ n ih =>
    rw [pb_k0_t1_succ (F := Ideal) 𝒱 c bd i arg2 harg2 arg3 harg3 arg4 harg4 arg5 harg5 arg6 harg6 arg7 harg7 arg8 harg8 arg9 harg9 h1
      (harg4.unread x2) (harg5.unread x3) (harg6.unread x4) ⟨n, hn⟩]
    intro pc hpc
    rcases List.mem_append.mp hpc with h | h
    · exact trip_piece 𝒱 bd c i arg2 harg2 arg3 harg3 arg4 harg4 arg5 harg5 arg6 harg6 arg7 harg7 arg8 harg8 arg9 harg9 h1 x2 x3 x4 _ pc h
    · exact ih (Nat.le_of_succ_le hn) pc h

/-- The offset of a whole-array access is zero along both axes. -/
theorem hz : (![0, 0] : Fin 2 → Nat) = fun _ => 0 := funext fun a => by fin_cases a <;> rfl

/-- The scratch after a point that fills it. -/
theorem scratch_A (c : Dev nD) (i : grid0.Coords) (arg2 : Memref sig .tc .vmem S256x14720 .i8) (harg2 : arg2.IsWhole)
    (arg3 : Memref sig .tc .vmem S256x1 .f32) (harg3 : arg3.IsWhole) (arg4 : Memref sig .tc .vmem S7360x896 .i8) (harg4 : arg4.IsWhole)
    (arg5 : Memref sig .tc .vmem S115x896 .f32) (harg5 : arg5.IsWhole) (arg6 : Memref sig .tc .vmem S115x896 .f32) (harg6 : arg6.IsWhole)
    (arg7 : Memref sig .tc .vmem S1x896 .f32) (harg7 : arg7.IsWhole) (arg8 : Memref sig .tc .vmem S256x896 .bf16) (harg8 : arg8.IsWhole)
    (arg9 : Memref sig .tc .vmem S14720x896 .bf16) (harg9 : arg9.IsWhole) (hc0 : cond0_0 i)
    (x0 : Vec Ideal S256x14720 .i8) (x1 : Vec Ideal S256x1 .f32) (x2 : Vec Ideal S7360x896 .i8) (x3 x4 : Vec Ideal S115x896 .f32) (x5 : Vec Ideal S1x896 .f32) :
    View.canon (kernelRun0_A c i arg2 harg2 arg3 harg3 arg4 harg4 arg5 harg5 arg6 harg6 arg7 harg7 arg8 harg8 arg9 harg9 hc0 x0 x1 x2 x3 x4 x5).2.1
      = colWeights x2 x3 x4 := by
  funext y
  refine View.canon_apply_of_pieces _ _ ?_ y (scover0_A_0 c i arg2 harg2 arg3 harg3 arg4 harg4 arg5 harg5 arg6 harg6 arg7 harg7 arg8 harg8 arg9 harg9 hc0 x0 x1 x2 x3 x4 x5 y)
  unfold kernelRun0_A
  dsimp only
  exact trips_pieces _ _ c i arg2 harg2 arg3 harg3 arg4 harg4 arg5 harg5 arg6 harg6 arg7 harg7 arg8 harg8 arg9 harg9 hc0 x2 x3 x4 _ (le_refl _)

/-- The same, as the contents that the next point finds in the scratch. -/
theorem sout_A (c : Dev nD) (i : grid0.Coords) (arg2 : Memref sig .tc .vmem S256x14720 .i8) (harg2 : arg2.IsWhole)
    (arg3 : Memref sig .tc .vmem S256x1 .f32) (harg3 : arg3.IsWhole) (arg4 : Memref sig .tc .vmem S7360x896 .i8) (harg4 : arg4.IsWhole)
    (arg5 : Memref sig .tc .vmem S115x896 .f32) (harg5 : arg5.IsWhole) (arg6 : Memref sig .tc .vmem S115x896 .f32) (harg6 : arg6.IsWhole)
    (arg7 : Memref sig .tc .vmem S1x896 .f32) (harg7 : arg7.IsWhole) (arg8 : Memref sig .tc .vmem S256x896 .bf16) (harg8 : arg8.IsWhole)
    (arg9 : Memref sig .tc .vmem S14720x896 .bf16) (harg9 : arg9.IsWhole) (hc0 : cond0_0 i)
    (x0 : Vec Ideal S256x14720 .i8) (x1 : Vec Ideal S256x1 .f32) (x2 : Vec Ideal S7360x896 .i8) (x3 x4 : Vec Ideal S115x896 .f32) (x5 : Vec Ideal S1x896 .f32) :
    sout0_A_0 c i arg2 harg2 arg3 harg3 arg4 harg4 arg5 harg5 arg6 harg6 arg7 harg7 arg8 harg8 arg9 harg9 hc0 x0 x1 x2 x3 x4 x5 = colWeights x2 x3 x4 := by
  unfold sout0_A_0
  rw [View.read_writes_eq_canon _ _ _ (scover0_A_0 c i arg2 harg2 arg3 harg3 arg4 harg4 arg5 harg5 arg6 harg6 arg7 harg7 arg8 harg8 arg9 harg9 hc0 x0 x1 x2 x3 x4 x5),
    scratch_A]

/-- The output block of a point that fills the scratch. -/
theorem out_A (c : Dev nD) (i : grid0.Coords) (arg2 : Memref sig .tc .vmem S256x14720 .i8) (harg2 : arg2.IsWhole)
    (arg3 : Memref sig .tc .vmem S256x1 .f32) (harg3 : arg3.IsWhole) (arg4 : Memref sig .tc .vmem S7360x896 .i8) (harg4 : arg4.IsWhole)
    (arg5 : Memref sig .tc .vmem S115x896 .f32) (harg5 : arg5.IsWhole) (arg6 : Memref sig .tc .vmem S115x896 .f32) (harg6 : arg6.IsWhole)
    (arg7 : Memref sig .tc .vmem S1x896 .f32) (harg7 : arg7.IsWhole) (arg8 : Memref sig .tc .vmem S256x896 .bf16) (harg8 : arg8.IsWhole)
    (arg9 : Memref sig .tc .vmem S14720x896 .bf16) (harg9 : arg9.IsWhole) (hc0 : cond0_0 i)
    (x0 : Vec Ideal S256x14720 .i8) (x1 : Vec Ideal S256x1 .f32) (x2 : Vec Ideal S7360x896 .i8) (x3 x4 : Vec Ideal S115x896 .f32) (x5 : Vec Ideal S1x896 .f32) :
    out0_A_6 c i arg2 harg2 arg3 harg3 arg4 harg4 arg5 harg5 arg6 harg6 arg7 harg7 arg8 harg8 arg9 harg9 hc0 x0 x1 x2 x3 x4 x5
      = k0_pay2 (F := Ideal) x0 (colWeights x2 x3 x4) x1 x5 := by
  have hs := scratch_A c i arg2 harg2 arg3 harg3 arg4 harg4 arg5 harg5 arg6 harg6 arg7 harg7 arg8 harg8 arg9 harg9 hc0 x0 x1 x2 x3 x4 x5
  unfold out0_A_6
  rw [View.read_writes_eq_canon _ _ _ (cover0_A_6 c i arg2 harg2 arg3 harg3 arg4 harg4 arg5 harg5 arg6 harg6 arg7 harg7 arg8 harg8 arg9 harg9 hc0 x0 x1 x2 x3 x4 x5)]
  unfold kernelRun0_A at hs ⊢
  dsimp only at hs ⊢
  sl_unfold_words
  rw [View.canon_unit_zero hz]
  simp only [View.readAt_eq_ld, harg2.read_unread, harg3.read_unread, harg7.read_unread, View.ld_unit_zero (S := S256x14720) hz,
    View.ld_unit_zero (S := S256x1) hz, View.ld_unit_zero (S := S1x896) hz, View.readCov_eq_canon']
  rw [hs]
  exact congrArg (fun w => k0_pay2 (F := Ideal) x0 w x1 x5) (View.ld_unit_zero (S := S14720x896) hz _ (colWeights x2 x3 x4))

/-- The output block of a point that reuses the scratch. -/
theorem out_B (c : Dev nD) (i : grid0.Coords) (arg2 : Memref sig .tc .vmem S256x14720 .i8) (harg2 : arg2.IsWhole)
    (arg3 : Memref sig .tc .vmem S256x1 .f32) (harg3 : arg3.IsWhole) (arg4 : Memref sig .tc .vmem S7360x896 .i8) (harg4 : arg4.IsWhole)
    (arg5 : Memref sig .tc .vmem S115x896 .f32) (harg5 : arg5.IsWhole) (arg6 : Memref sig .tc .vmem S115x896 .f32) (harg6 : arg6.IsWhole)
    (arg7 : Memref sig .tc .vmem S1x896 .f32) (harg7 : arg7.IsWhole) (arg8 : Memref sig .tc .vmem S256x896 .bf16) (harg8 : arg8.IsWhole)
    (arg9 : Memref sig .tc .vmem S14720x896 .bf16) (harg9 : arg9.IsWhole) (hc0 : ¬ cond0_0 i)
    (x0 : Vec Ideal S256x14720 .i8) (x1 : Vec Ideal S256x1 .f32) (x2 : Vec Ideal S7360x896 .i8) (x3 x4 : Vec Ideal S115x896 .f32) (x5 : Vec Ideal S1x896 .f32)
    (xs0 : Vec Ideal S14720x896 .bf16) :
    out0_B_6 c i arg2 harg2 arg3 harg3 arg4 harg4 arg5 harg5 arg6 harg6 arg7 harg7 arg8 harg8 arg9 harg9 hc0 x0 x1 x2 x3 x4 x5 xs0
      = k0_pay2 (F := Ideal) x0 xs0 x1 x5 := by
  unfold out0_B_6
  rw [View.read_writes_eq_canon _ _ _ (cover0_B_6 c i arg2 harg2 arg3 harg3 arg4 harg4 arg5 harg5 arg6 harg6 arg7 harg7 arg8 harg8 arg9 harg9 hc0 x0 x1 x2 x3 x4 x5 xs0)]
  unfold kernelRun0_B
  dsimp only
  sl_unfold_words
  rw [View.canon_unit_zero hz]
  simp only [View.readAt_eq_ld, harg2.read_unread, harg3.read_unread, harg7.read_unread, harg9.read_unread, View.ld_unit_zero (S := S256x14720) hz,
    View.ld_unit_zero (S := S256x1) hz, View.ld_unit_zero (S := S1x896) hz, View.ld_unit_zero (S := S14720x896) hz]

end Cert.KernelIdeal.Value

end
-- ==== Proof.RefValue.lean ====
module

public import proofs.«01_k».proof.Proof.Gen.ReferenceIdeal.Read
public import Idealize.ShloMosaic.Lib.Pointwise
public import proofs.«01_k».proof.Proof.Nibble

@[expose] public section

set_option maxRecDepth 16384

noncomputable section

/-!
The reference's result at one element: the row of activation codes against the column of dequantised weights, times the
row's scale and the column's scale.
-/

namespace Cert.ReferenceIdeal.Value

open Idealize.ShloMosaic Idealize.ShloMosaic.TcCoe Idealize.SL.Sem
open Cert.ReferenceIdeal Cert.ReferenceIdeal.Gen Cert.ReferenceIdeal.Read

/-- The dequantised weight of row `k`, column `n`: code `k % 2` of the packed byte in row `k / 2`, times the scale of
    row `k`'s group of 128, less the group's zero. -/
def weight (p : IVec S7360x6272 8) (gs gz : IVec S115x6272 8) (k : Fin 14720) (n : Fin 6272) : EReal :=
  (((Nibble.code (p (ix2 ⟨k.val / 2, by omega⟩ n)) (k.val % 2) : ℕ) : ℝ) : EReal)
      * (((gs (ix2 ⟨k.val / 128, by omega⟩ n)).toNat : ℝ) : EReal)
    - (((gz (ix2 ⟨k.val / 128, by omega⟩ n)).toNat : ℝ) : EReal)

/-- The amount by which row `k` of the repeated bytes is shifted: four times the last bit of `k`. -/
theorem shift_at (k : Fin 14720) (n : Fin 6272) :
    val_main_v12 (F := Ideal) (ix2 k n) = IntOp.muli (BitVec.ofNat 32 (k.val % 2)) 4#32 := by
  rw [val_main_v12_apply, val_main_v11_apply, val_main_v10_apply, val_main_v8_apply, val_main_v9_apply, val_main_v7_apply,
    val_main_v6_apply, val_main_c_apply, val_main_c_0_apply, ← Nibble.and_one]
  rfl

/-- The byte the reference repeats into row `k`: packed row `k / 2`. -/
theorem byte_at (p : IVec S7360x6272 8) (k : Fin 14720) (n : Fin 6272) :
    val_main_v4 (F := Ideal) p (ix2 k n) = p (ix2 ⟨k.val / 2, by omega⟩ n) := by
  rw [val_main_v4_apply, val_main_v3_apply, val_main_v2_apply]
  refine congrArg p (funext fun a => Fin.ext ?_)
  match a with
  | ⟨0, _⟩ => show (k.val * 6272 + n.val) / 12544 = k.val / 2; omega
  | ⟨1, _⟩ => show (k.val * 6272 + n.val) % 6272 = n.val; omega

/-- The code the reference takes out of the packed rows. -/
theorem codes_at (p : IVec S7360x6272 8) (k : Fin 14720) (n : Fin 6272) :
    val_main_v16 (F := Ideal) p (ix2 k n) = (((Nibble.code (p (ix2 ⟨k.val / 2, by omega⟩ n)) (k.val % 2) : ℕ) : ℝ) : EReal) := by
  rw [val_main_v16_apply, val_main_v15_apply, val_main_v13_apply, val_main_v14_apply, val_main_c_1_apply, shift_at,
    val_main_v5_apply, byte_at]
  have h := Nibble.shift_mask (p (ix2 ⟨k.val / 2, by omega⟩ n)) ⟨k.val % 2, Nat.mod_lt _ (by decide)⟩
  show (((BitVec.toInt _ : ℤ) : ℝ) : EReal) = _
  rw [h, Int.cast_natCast]

/-- The weight matrix the reference multiplies by. -/
theorem weight_at (p : IVec S7360x6272 8) (gs gz : IVec S115x6272 8) (k : Fin 14720) (n : Fin 6272) :
    val_main_v28 (F := Ideal) p gs gz (ix2 k n) = weight p gs gz k n := by
  rw [val_main_v28_apply, val_main_v27_apply, val_main_v22_apply, val_main_v26_apply, val_main_v25_apply, val_main_v21_apply,
    val_main_v20_apply, val_main_v17_apply, val_main_v19_apply, val_main_v24_apply, val_main_v18_apply, val_main_v23_apply,
    show idx_main_v17 (idx_main_v28 (ix2 k n)) = ix2 k n from funext fun a => Fin.ext (match a with
      | ⟨0, _⟩ => by
        show (((k.val * 6272 + n.val) / 802816 * 128 + (k.val * 6272 + n.val) / 6272 % 128) * 6272 + (k.val * 6272 + n.val) % 6272) / 6272 = k.val
        omega
      | ⟨1, _⟩ => by
        show (((k.val * 6272 + n.val) / 802816 * 128 + (k.val * 6272 + n.val) / 6272 % 128) * 6272 + (k.val * 6272 + n.val) % 6272) % 6272 = n.val
        omega),
    codes_at]
  have hg : ∀ i : S115x6272.Idx, (i 0).val = (k.val * 6272 + n.val) / 802816 → (i 1).val = (k.val * 6272 + n.val) % 6272 →
      i = ix2 ⟨k.val / 128, by omega⟩ n := fun i h0 h1 => funext fun a => Fin.ext (match a with
      | ⟨0, _⟩ => by show (i 0).val = k.val / 128; omega
      | ⟨1, _⟩ => by show (i 1).val = n.val; omega)
  rw [hg (idx_main_v20 (idx_main_v21 (idx_main_v28 (ix2 k n)))) rfl rfl, hg (idx_main_v25 (idx_main_v26 (idx_main_v28 (ix2 k n)))) rfl rfl]
  show _ * (((BitVec.toInt _ : ℤ) : ℝ) : EReal) - (((BitVec.toInt _ : ℤ) : ℝ) : EReal) = _
  rw [Nibble.zext_toInt, Nibble.zext_toInt, Int.cast_natCast, Int.cast_natCast]
  rfl

/-- The reference's result. -/
theorem result_at (x : IVec S2x3072x14720 8) (xs : FVec Ideal S2x3072 .f32) (p : IVec S7360x6272 8) (gs gz : IVec S115x6272 8)
    (cs : FVec Ideal S6272 .f32) (b : Fin 2) (s : Fin 3072) (n : Fin 6272) :
    val_main_v36 (F := Ideal) x xs p gs gz cs (ix3 b s n)
      = (∑ k : Fin 14720, (((x (ix3 b s k)).toInt : ℝ) : EReal) * weight p gs gz k n) * xs (ix2 b s) * cs (ix1 n) := by
  rw [val_main_v36_apply, val_main_v35_apply, val_main_v32_apply, val_main_v29_apply, val_main_v31_apply, val_main_v30_apply,
    val_main_v34_apply, val_main_v33_apply]
  refine congrArg₂ (fun u v : EReal => u * v) (congrArg₂ (fun u v : EReal => u * v) (Finset.sum_congr rfl fun k _ => ?_) ?_) ?_
  · rw [show ridx_main_v29 (ix3 b s n) k = ix2 k n from funext fun a => match a with | ⟨0, _⟩ => rfl | ⟨1, _⟩ => rfl, weight_at,
      val_main_v1_apply, val_main_v0_apply,
      show lidx_main_v29 (ix3 b s n) k = ix3 b s k from funext fun a => match a with | ⟨0, _⟩ => rfl | ⟨1, _⟩ => rfl | ⟨2, _⟩ => rfl]
    show (((BitVec.toInt _ : ℤ) : ℝ) : EReal) * _ = _
    rw [Nibble.sext_toInt]
  · exact congrArg xs (funext fun a => match a with | ⟨0, _⟩ => rfl | ⟨1, _⟩ => rfl)
  · exact congrArg cs (funext fun a => match a with | ⟨0, _⟩ => rfl)

end Cert.ReferenceIdeal.Value

end
-- ==== Proof.Array.lean ====
module

public import proofs.«01_k».proof.Proof.Entry
public import proofs.«01_k».proof.Proof.Scratch
public import proofs.«01_k».proof.Proof.RefValue

@[expose] public section

set_option maxRecDepth 16384

noncomputable section

/-!
What the kernel's output array holds: at every grid point the scratch is the dequantised block of the point's columns, the
output block is the product with it, and the blocks tile the array.
-/

namespace Cert.KernelIdeal.Value

open Idealize.ShloMosaic Idealize.ShloMosaic.TcCoe Idealize.ShloMosaic.Tactic Idealize.SL.Sem
open Cert.KernelIdeal Cert.KernelIdeal.Gen
open Cert.ReferenceIdeal.Value (weight)

variable (m : (ℓ : Loc nD τ sig) → Buf (Elt Ideal) ℓ)

/-- The weights the arguments hold. -/
def weightM (c : Dev nD) (k : Fin 14720) (n : Fin 6272) : EReal :=
  weight (m ((c : Thread nD τ).loc main_arg2)) (m ((c : Thread nD τ).loc main_arg3)) (m ((c : Thread nD τ).loc main_arg4)) k n

/-- The weights of point `t`'s column block. -/
def blockWeights (c : Dev nD) (t : Fin cfg0.N) : Vec Ideal S14720x896 .bf16 := fun i => weightM m c (i 0) (colOf t (i 1))

/-- Dequantising point `t`'s blocks gives the weights of its columns. -/
theorem colWeights_block (c : Dev nD) (t : Fin cfg0.N) :
    colWeights (iblk m c 2 t) (iblk m c 3 t) (iblk m c 4 t) = blockWeights m c t := by
  funext i
  exact congrArg₂ (fun u v : EReal => u - v)
    (congrArg₂ (fun u v : EReal => u * v)
      (congrArg (fun b : BitVec 8 => (((Nibble.code b ((i 0).val % 2) : ℕ) : ℝ) : EReal)) (iblk_packed m c t _ (i 1)))
      (iblk_gs m c t _ (i 1)))
    (iblk_gz m c t _ (i 1))

/-- The weights of a block depend on the column block only. -/
theorem blockWeights_congr (c : Dev nD) (t t' : Fin cfg0.N) (h : t.val / 24 = t'.val / 24) : blockWeights m c t = blockWeights m c t' := by
  funext i
  exact congrArg (weightM m c (i 0)) (Fin.ext (by show t.val / 24 * 896 + (i 1).val = t'.val / 24 * 896 + (i 1).val; rw [h]))

/-- After every point the scratch holds the weights of the point's column block. -/
theorem scratch_eq (c : Dev nD) : ∀ (n : ℕ) (hn : n < cfg0.N), (outsAt0 m c n hn).2 = blockWeights m c ⟨n, hn⟩ := by
  intro n
  induction n with
  | zero =>
    intro hn
    rw [outsAt0_A m c ⟨0, hn⟩ (Nat.zero_mod _)]
    dsimp only
    rw [sout_A, colWeights_block]
  | succ n ih =>
    intro hn
    by_cases h0 : (n + 1) % 24 = 0
    · rw [outsAt0_A m c ⟨n + 1, hn⟩ h0]
      dsimp only
      rw [sout_A, colWeights_block]
    · rw [outsAt0_B m c ⟨n + 1, hn⟩ h0]
      unfold sout0_B_0
      dsimp only
      refine (ih (Nat.lt_of_succ_lt hn)).trans (blockWeights_congr m c _ _ ?_)
      show n / 24 = (n + 1) / 24
      omega

/-- The output block after every point: the product of its rows with the weights of its columns. -/
theorem out_eq (c : Dev nD) (t : Fin cfg0.N) :
    (outsAt0 m c t.val t.isLt).1 = k0_pay2 (F := Ideal) (iblk m c 0 t) (blockWeights m c t) (iblk m c 1 t) (iblk m c 5 t) := by
  by_cases h0 : t.val % 24 = 0
  · rw [outsAt0_A m c t h0]
    dsimp only
    rw [out_A, colWeights_block]
  · have hs := scratch_eq m c (t.val - 1) (Nat.lt_of_le_of_lt (Nat.sub_le _ _) t.isLt)
    rw [outsAt0_B m c t h0]
    dsimp only
    rw [out_B, hs]
    refine congrArg (fun w => k0_pay2 (F := Ideal) (iblk m c 0 t) w (iblk m c 1 t) (iblk m c 5 t)) (blockWeights_congr m c _ _ ?_)
    show (t.val - 1) / 24 = t.val / 24
    omega

/-- The kernel's output, rows and columns. -/
def product (c : Dev nD) : FVec Ideal S6144x6272 .bf16 := fun i =>
  (∑ k : Fin 14720, (((m ((c : Thread nD τ).loc main_arg0) : IVec S2x3072x14720 8)
      (ix3 ⟨(i 0).val / 3072, by have := (i 0).isLt; change _ < 6144 at this; omega⟩ ⟨(i 0).val % 3072, Nat.mod_lt _ (by decide)⟩ k)).toInt : ℝ)
        * weightM m c k (i 1))
    * (m ((c : Thread nD τ).loc main_arg1) : FVec Ideal S2x3072 .f32)
      (ix2 ⟨(i 0).val / 3072, by have := (i 0).isLt; change _ < 6144 at this; omega⟩ ⟨(i 0).val % 3072, Nat.mod_lt _ (by decide)⟩)
    * (m ((c : Thread nD τ).loc main_arg5) : FVec Ideal S6272 .f32) (ix1 (i 1))

/-- One element of a point's output block. -/
theorem block_at (c : Dev nD) (t : Fin cfg0.N) (r : Fin 256) (q : Fin 896) :
    k0_pay2 (F := Ideal) (iblk m c 0 t) (blockWeights m c t) (iblk m c 1 t) (iblk m c 5 t) (ix2 r q)
      = product m c (ix2 (rowOf t r) (colOf t q)) := by
  refine (out_at _ _ _ _ r q).trans ?_
  refine congrArg₂ (fun u v : EReal => u * v) (congrArg₂ (fun u v : EReal => u * v) (Finset.sum_congr rfl fun k _ => ?_) (iblk_xs m c t r)) (iblk_cs m c t q)
  exact congrArg (fun b : BitVec 8 => ((b.toInt : ℝ) : EReal) * weightM m c k (colOf t q)) (iblk_x m c t r k)

/-- The output blocks cover the output array. -/
theorem covers : (cfg0.win 6).Covers := by decide +kernel

/-- The array the kernel leaves. -/
theorem array_eq (c : Dev nD) : (dats m 0 c).arrAt 6 (cfgs 0).N = product m c := by
  refine (dats m 0 c).arrAt_eq_of_covers 6 (product m c) covers fun t _ y => ?_
  rw [after0_6, out_eq]
  blk_simp [idx t]
  obtain ⟨r, q, rfl⟩ : ∃ (r : Fin 256) (q : Fin 896), y = ix2 r q := ⟨y 0, y 1, funext fun a => match a with | ⟨0, _⟩ => rfl | ⟨1, _⟩ => rfl⟩
  refine (block_at m c t r q).trans (congrArg (product m c) ?_)
  blk_ext [rowOf, colOf, idx t]

end Cert.KernelIdeal.Value

end
-- ==== Proof.Equation.lean ====
module

public import proofs.«01_k».proof.Proof.Array
public import Idealize.ShloMosaic.Lib.Claim

@[expose] public section

set_option maxRecDepth 16384

noncomputable section

/-!
The kernel's result, its rows split back into batch and position, is the reference's.
-/

namespace Cert.KernelIdeal.Value

open Idealize.ShloMosaic Idealize.ShloMosaic.TcCoe Idealize.ShloMosaic.Tactic Idealize.SL.Sem
open Cert.KernelIdeal Cert.KernelIdeal.Gen

variable (m : (ℓ : Loc nD τ sig) → Buf (Elt Ideal) ℓ) (ρ : Dev nD → PrngReg)

/-- The reference's result over the kernel's arguments. -/
def reference (c : Dev nD) : FVec Ideal S2x3072x6272 .bf16 :=
  Cert.ReferenceIdeal.Read.val_main_v36 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5))

/-- The host's last reshape: row `3072 b + s` is position `s` of batch `b`. -/
theorem split_at (y : FVec Ideal S6144x6272 .bf16) (b : Fin 2) (s : Fin 3072) (n : Fin 6272) :
    shapeCast S2x3072x6272 y shapeCasts_S6144x6272_S2x3072x6272 (ix3 b s n) = y (ix2 ⟨b.val * 3072 + s.val, by omega⟩ n) := by
  pointwise

/-- One element of the product, at the row of batch `b` and position `s`. -/
theorem product_at (c : Dev nD) (b : Fin 2) (s : Fin 3072) (n : Fin 6272) :
    product m c (ix2 ⟨b.val * 3072 + s.val, by omega⟩ n) = reference m c (ix3 b s n) := by
  refine Eq.trans ?_ (Cert.ReferenceIdeal.Value.result_at _ _ _ _ _ _ b s n).symm
  have hb : ∀ h, (⟨(b.val * 3072 + s.val) / 3072, h⟩ : Fin 2) = b := fun _ => Fin.ext (by show (b.val * 3072 + s.val) / 3072 = b.val; omega)
  have hs : ∀ h, (⟨(b.val * 3072 + s.val) % 3072, h⟩ : Fin 3072) = s := fun _ => Fin.ext (by show (b.val * 3072 + s.val) % 3072 = s.val; omega)
  refine congrArg₂ (fun u v : EReal => u * v) (congrArg₂ (fun u v : EReal => u * v) (Finset.sum_congr rfl fun k _ => ?_) ?_) rfl
  · exact congrArg (fun v : BitVec 8 => ((v.toInt : ℝ) : EReal) * weightM m c k n)
      (congrArg₂ (fun (u : Fin 2) (v : Fin 3072) => (m ((c : Thread nD τ).loc main_arg0) : IVec S2x3072x14720 8) (ix3 u v k)) (hb _) (hs _))
  · exact congrArg₂ (fun (u : Fin 2) (v : Fin 3072) => (m ((c : Thread nD τ).loc main_arg1) : FVec Ideal S2x3072 .f32) (ix2 u v)) (hb _) (hs _)

/-- The kernel's product, reshaped, is the reference's result. -/
theorem product_eq (c : Dev nD) : shapeCast S2x3072x6272 (product m c) shapeCasts_S6144x6272_S2x3072x6272 = reference m c := by
  funext i
  obtain ⟨b, s, n, rfl⟩ : ∃ (b : Fin 2) (s : Fin 3072) (n : Fin 6272), i = ix3 b s n :=
    ⟨i 0, i 1, i 2, funext fun a => match a with | ⟨0, _⟩ => rfl | ⟨1, _⟩ => rfl | ⟨2, _⟩ => rfl⟩
  exact (split_at _ b s n).trans (product_at m c b s n)

/-- The result buffer after the host's last reshape. -/
theorem result_eq (c : Dev nD) :
    Pipeline.afterTail₀ cfgs (dats m) 0 (V0 m) [hostOps1] c main_v8 = reference m c := by
  rw [← product_eq, ← array_eq]
  unfold Pipeline.afterTail₀
  show StableHlo.after hostOps1 _ (Proc.devRef .tc main_v8) = _
  after_results
  exact congrArg (fun y => shapeCast S2x3072x6272 y shapeCasts_S6144x6272_S2x3072x6272)
    (Pipeline.withArrays_arr spec0 launch0.win.arr_inj c (V0 m c) (fun w => (dats m 0 c).arrAt w (cfgs 0).N) 6)

/-- The kernel's run: the result is the reference's, the arguments are unchanged. -/
theorem run : θ_run defs (onTc (τ := τ) (main (F := Ideal))) ⟨m, fun _ => 0, ρ⟩ (fun r => ∀ c : Dev nD,
      r.2.mem ((c.tc : Thread nD τ).loc main_v8) = reference m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono
    (fun _ h c => ⟨((h.1 c).2 main_v8 (Pipeline.mem_restRefs_of main_v8 (by decide) (by decide))).trans (result_eq m c), h.2 c⟩)
    (θ_run_and (run_main m ρ) (unchanged m ρ))

end Cert.KernelIdeal.Value

end
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Equation

@[expose] public section

open Idealize.ShloMosaic Idealize.ShloMosaic.TcCoe Idealize.SL.Sem

/-- The reference terminates, with its arguments unchanged and no semaphore left raised. -/
theorem Cert.Proof.frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Kernel and reference compute the same result from the same arguments. -/
theorem Cert.Proof.algebraic : Cert.algebraic_KernelIdeal_ReferenceIdeal := by
  intro m g m' g' _ hagree
  refine ⟨fun c => Cert.KernelIdeal.Value.reference m c, Cert.KernelIdeal.Value.run m g, ?_⟩
  refine (θ_run Cert.ReferenceIdeal.defs _ _).mono (fun r h c => ⟨(h c).1.trans ?_, (h c).2⟩) (Cert.ReferenceIdeal.Value.run (F := Ideal) m' g')
  obtain ⟨h0, h1, h2, h3, h4, h5⟩ := hagree c
  rw [Cert.ReferenceIdeal.Read.val_main_v36_eq, h0, h1, h2, h3, h4, h5]
  rfl

/-- All five claims: the three frames, that the ideal program is the kernel, and the equality with the reference. -/
theorem Cert.Proof.claim : Cert.Claim :=
  ⟨Cert.Kernel.Gen.facts, Cert.KernelIdeal.Gen.facts, Cert.ReferenceIdeal.Gen.facts, fun m ρ _ => Cert.Kernel.Gen.frame m ρ,
    fun m ρ _ => Cert.KernelIdeal.Gen.frame m ρ, Cert.Proof.frame_reference, trivial, Cert.Proof.algebraic⟩
